-- ==== Defs.lean ====
def Pre_Kernel [hPre_id_in_range : Cert.Pre_id_in_range.Facts] (m : (ℓ : Loc Cert.Kernel.nD Cert.Kernel.τ Cert.Kernel.sig) → Buf (Elt Bits) ℓ) : Prop :=
  ∀ c : Dev Cert.Kernel.nD,
    (Cert.Pre_id_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_id_in_range : Cert.Pre_id_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_id_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_id_in_range : Cert.Pre_id_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_id_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_id_in_range : Cert.Pre_id_in_range.Facts] (m : (ℓ : Loc Cert.Reference.nD Cert.Reference.τ Cert.Reference.sig) → Buf (Elt Bits) ℓ) : Prop :=
  ∀ c : Dev Cert.Reference.nD,
    (Cert.Pre_id_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] [hPre_id_in_range : Cert.Pre_id_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_id_in_range : Cert.Pre_id_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_id_in_range : Cert.Pre_id_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_id_in_range : Cert.Pre_id_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_id_in_range : Cert.Pre_id_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_id_in_range : Cert.Pre_id_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v1)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts) (hPre_id_in_range : Cert.Pre_id_in_range.Facts),
    quiescent_Kernel (hKernel := hKernel) (hPre_id_in_range := hPre_id_in_range)
    ∧ quiescent_KernelIdeal (hKernelIdeal := hKernelIdeal) (hPre_id_in_range := hPre_id_in_range)
    ∧ quiescent_ReferenceIdeal (hReferenceIdeal := hReferenceIdeal) (hPre_id_in_range := hPre_id_in_range)
    ∧ quiescent_Reference (hReference := hReference) (hPre_id_in_range := hPre_id_in_range)
    ∧ preserves_Kernel_KernelIdeal
    ∧ algebraic_KernelIdeal_ReferenceIdeal (hKernelIdeal := hKernelIdeal) (hReferenceIdeal := hReferenceIdeal) (hPre_id_in_range := hPre_id_in_range)
    ∧ bitexact_Kernel_Reference (hKernel := hKernel) (hReference := hReference) (hPre_id_in_range := hPre_id_in_range)
-- ==== Pre_id_in_range.lean ====
abbrev S50x10x4096 : Shape := ⟨3, ![50, 10, 4096]⟩
abbrev S_ : Shape := ⟨0, ![]⟩

class Facts : Prop where

variable [Facts]

def fn {F : FTy → Type} [FloatOps F] (main_arg0 : FVec F S50x10x4096 .f32) (main_arg1 : IVec S_ 32) : IVec S_ 1 :=
  let main_c : IVec S_ 32 := constantI S_ 32 0#32
  let main_v0 : IVec S_ 1 := cmpi .sge main_arg1 main_c
  let main_c_0 : IVec S_ 32 := constantI S_ 32 50#32
  let main_v1 : IVec S_ 1 := cmpi .slt main_arg1 main_c_0
  let main_v2 : IVec S_ 1 := andi main_v0 main_v1
  main_v2
-- ==== Kernel.lean ====
abbrev S50x10x4096 : Shape := ⟨3, ![50, 10, 4096]⟩
abbrev S_ : Shape := ⟨0, ![]⟩
abbrev S1 : Shape := ⟨1, ![1]⟩
abbrev S10x4096 : Shape := ⟨2, ![10, 4096]⟩
abbrev S1x10x4096 : Shape := ⟨3, ![1, 10, 4096]⟩

abbrev nBuf : Table → Nat
  | .hbm => 4
  | .local .scScalar .smem => 1
  | _ => 0

abbrev bufTy : (tb : Table) → Fin (nBuf tb) → BufTy
  | .hbm, ⟨0, _⟩ => ⟨S50x10x4096, .f32⟩
  | .hbm, ⟨1, _⟩ => ⟨S_, .i32⟩
  | .hbm, ⟨2, _⟩ => ⟨S1, .i32⟩
  | .hbm, ⟨3, _⟩ => ⟨S10x4096, .f32⟩
  | .local .scScalar .smem, ⟨0, _⟩ => ⟨S1, .i32⟩
  | _, _ => ⟨S50x10x4096, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg0_scs : Ref sig .scScalar := ⟨.hbm, 0, rfl⟩
abbrev main_v0_scs : Ref sig .scScalar := ⟨.hbm, 2, rfl⟩
abbrev main_v1_scs : Ref sig .scScalar := ⟨.hbm, 3, rfl⟩
abbrev cc0_scratch0 : Ref sig .scScalar := ⟨.smem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

def k0_off1 (v1 : BitVec 32) : Fin 3 → Nat :=
  let c0_i32_0_r1 : BitVec 32 := 0#32
  let c0_i32_1_r1 : BitVec 32 := 0#32
  ![v1.toNat, 0, 0]

def k0_chk1 (v1 : BitVec 32) : Prop :=
  (∀ a, (k0_off1 v1) a + S1x10x4096.size a ≤ S50x10x4096.size a)
theorem k0_off1_inb : ∀ (v1 : BitVec 32) (k0_hw1 : k0_chk1 v1), ∀ a, (k0_off1 v1) a + S1x10x4096.size a ≤ S50x10x4096.size a := fun v1 k0_hw1 => k0_hw1

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S50x10x4096 : Shape := ⟨3, ![50, 10, 4096]⟩
abbrev S_ : Shape := ⟨0, ![]⟩
abbrev S1 : Shape := ⟨1, ![1]⟩
abbrev S10x4096 : Shape := ⟨2, ![10, 4096]⟩

abbrev nBuf : Space → Nat
  | .hbm => 21
  | .vmem => 0
  | .smem => 0
  | _ => 0

abbrev bufTy : (tb : Table) → Fin (tcTables nBuf tb) → BufTy
  | .hbm, ⟨0, _⟩ => ⟨S50x10x4096, .f32⟩
  | .hbm, ⟨1, _⟩ => ⟨S_, .i32⟩
  | .hbm, ⟨2, _⟩ => ⟨S_, .i32⟩
  | .hbm, ⟨3, _⟩ => ⟨S_, .i1⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S1, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S1, .i1⟩
  | .hbm, ⟨12, _⟩ => ⟨S1, .i1⟩
  | .hbm, ⟨13, _⟩ => ⟨S1, .i1⟩
  | .hbm, ⟨14, _⟩ => ⟨S_, .i1⟩
  | .hbm, ⟨15, _⟩ => ⟨S_, .i1⟩
  | .hbm, ⟨16, _⟩ => ⟨S10x4096, .f32⟩
  | .hbm, ⟨17, _⟩ => ⟨S10x4096, .i1⟩
  | .hbm, ⟨18, _⟩ => ⟨S_, .f32⟩
  | .hbm, ⟨19, _⟩ => ⟨S10x4096, .f32⟩
  | .hbm, ⟨20, _⟩ => ⟨S10x4096, .f32⟩
  | _, _ => ⟨S50x10x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_c_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_c_1 : Ref sig .tc := ⟨.hbm, 8, rfl⟩
abbrev main_call0_c_2 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_c_3 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_cst : Ref sig .tc := ⟨.hbm, 18, rfl⟩
abbrev main_call0_v11 : Ref sig .tc := ⟨.hbm, 19, rfl⟩
abbrev main_v0 : Ref sig .tc := ⟨.hbm, 20, rfl⟩

abbrev nD : Nat := 1
abbrev τ : Topo := Topo.v7x

variable {F : FTy → Type} [FloatOps F]
-- ==== Proof.Row.lean ====
/-
  The mathematics of the lookup, with no program in it: `rowAt w x` is block `w` of a `[50, 10, 4096]` pool, and both
  programs' ways of reaching that block are shown to be it —

  * the reference's: a gather of one slice at a start index (`gather_eq_rowAt`), guarded by a test that the index is in the pool
    and preceded by jnp's wrap of a negative index; for an index in range the guard is true and the wrap does nothing (`take_eq_rowAt`);
  * the kernel's: the pool's memref sliced at offset `(w, 0, 0)`, the leading axis of extent 1 squeezed away, and read
    (`read_block`).

  `pre_lt` reads the claim's precondition: it says that the id, as an unsigned word, is below 50.
-/
module

public import Idealize.ShloMosaic.Lib.StableHlo.Predicate
public import Idealize.ShloMosaic.Lib.ValueLayout
public import Idealize.ShloMosaic.Lib.Pointwise.Index
public import proofs.«01_k».proof.Proof.Gen.Pre_id_in_range

@[expose] public section

noncomputable section

namespace Cert.Proof.Row

open Idealize.ShloMosaic

/-- The pool's shape, the result's, a vector of one entry, and a scalar. -/
abbrev Pool : Shape := ⟨3, ![50, 10, 4096]⟩
abbrev Out : Shape := ⟨2, ![10, 4096]⟩
abbrev One : Shape := ⟨1, ![1]⟩
abbrev Scal : Shape := ⟨0, ![]⟩

/-- Block `w` of a pool: entry `(r, c)` is the pool's entry `(w, r, c)`. (Beyond the pool the word is taken modulo 50;
    every use here has `w < 50`.) -/
def rowAt {α : Type} (w : BitVec 32) (x : Pool.Idx → α) : Out.Idx → α :=
  fun j => x (ix3 (Fin.ofNat 50 w.toNat) (j 0) (j 1))

/-! ## The precondition -/

/-- A word that is at least 0 and less than 50 as a signed number is below 50 as an unsigned one. -/
theorem word_lt (w : BitVec 32) (h : IntOp.andi (IntOp.cmpi .sge w 0#32) (IntOp.cmpi .slt w 50#32) = 1#1) : w.toNat < 50 := by
  simp only [IntOp.andi, IntOp.cmpi, BitVec.sle, BitVec.slt] at h
  have hb : ∀ a b : Bool, BitVec.ofBool a &&& BitVec.ofBool b = 1#1 → a = true ∧ b = true := by decide
  have h2 := hb _ _ h
  simp only [decide_eq_true_eq, BitVec.toInt_eq_toNat_cond, BitVec.toNat_ofNat] at h2
  have := w.isLt
  split at h2 <;> simp at h2 <;> omega

/-- The precondition, read: the id's one word is below 50. -/
theorem pre_lt {F : FTy → Type} [FloatOps F] (x : FVec F Pool .f32) (id : IVec Scal 32)
    (h : Cert.Pre_id_in_range.fn (F := F) x id = fun _ => 1#1) (k : Scal.Idx) : (id k).toNat < 50 :=
  word_lt _ (congrFun h k)

/-! ## The reference's take -/

/-- The gather the take is: one start index `w < 50` on the pool's leading axis, the slice `[1, 10, 4096]` with that axis
    collapsed. It is block `w`. -/
theorem gather_eq_rowAt {α : Type} (wf : GatherDims.WF Pool One Out [0, 1] [0] [] [0] [] 0 ![1, 10, 4096])
    (x : Pool.Idx → α) (w : BitVec 32) (hw : w.toNat < 50) :
    Host.gather (⟨[0, 1], [0], [], [], [0], 0, ![1, 10, 4096], wf⟩ : GatherDims Pool One Out) x (fun _ => w) = rowAt w x := by
  funext j
  unfold Host.gather rowAt
  refine congrArg x (funext fun a => Fin.ext ?_)
  have hwi : w.toInt.toNat = w.toNat := by
    rw [BitVec.toInt_eq_toNat_cond, if_pos (by omega)]; rfl
  match a with
  | ⟨0, _⟩ =>
    show min w.toInt.toNat (50 - 1) + 0 + 0 = w.toNat % 50
    rw [hwi]; omega
  | ⟨1, _⟩ =>
    show 0 + 0 + (j 0).val = (j 0).val
    omega
  | ⟨2, _⟩ =>
    show 0 + 0 + (j 1).val = (j 1).val
    omega

/-- The reference's whole expression — wrap a negative index, test it against the pool's bounds, gather, and put a
    filler value where the test failed — at an id whose word is below 50: block `id` of the pool. -/
theorem take_eq_rowAt {α : Type} (wf : GatherDims.WF Pool One Out [0, 1] [0] [] [0] [] 0 ![1, 10, 4096])
    (hb : Scal.BroadcastsInDim One ![]) (hb' : Scal.BroadcastsInDim Out ![]) (hr : One.ReducesTo [0] Scal) (h0 : 0 < Scal.numel)
    (x : Pool.Idx → α) (filler : Scal.Idx → α) (id : IVec Scal 32) (k : Scal.Idx) (hid : (id k).toNat < 50) :
    select (broadcastInDim Out ![] hb' (Host.reduce IntOp.andi
        (andi (cmpi .sge (broadcastInDim One ![] hb (select (cmpi .slt id (constantI Scal 32 0#32)) (addi id (constantI Scal 32 50#32)) id))
            (broadcastInDim One ![] hb (constantI Scal 32 0#32)))
          (cmpi .sle (broadcastInDim One ![] hb (select (cmpi .slt id (constantI Scal 32 0#32)) (addi id (constantI Scal 32 50#32)) id))
            (constantI One 32 49#32)))
        (constantI Scal 1 1#1) hr h0))
      (Host.gather (⟨[0, 1], [0], [], [], [0], 0, ![1, 10, 4096], wf⟩ : GatherDims Pool One Out) x
        (broadcastInDim One ![] hb (select (cmpi .slt id (constantI Scal 32 0#32)) (addi id (constantI Scal 32 50#32)) id)))
      (broadcastInDim Out ![] hb' filler)
    = rowAt (id k) x := by
  have hidx : broadcastInDim One ![] hb (select (cmpi .slt id (constantI Scal 32 0#32)) (addi id (constantI Scal 32 50#32)) id)
      = fun _ => id k := by
    funext q
    rw [StableHlo.Predicate.bcast_scalar hb h0]
    have hk : (Shape.Idx.first h0 : Scal.Idx) = k := funext fun a => a.elim0
    rw [hk]
    have hneg : IntOp.cmpi .slt (id k) 0#32 ≠ 1#1 := fun h => by
      have := (StableHlo.Predicate.slt_iff_toNat (by omega) (by decide)).1 h
      exact absurd this (Nat.not_lt_zero _)
    show Scalar.select (IntOp.cmpi .slt (id k) 0#32) _ _ = _
    exact if_neg hneg
  rw [hidx]
  have hge : IntOp.cmpi .sge (id k) 0#32 = 1#1 :=
    (StableHlo.Predicate.sge_iff_toNat (by omega) (by decide)).2 (Nat.zero_le _)
  have hle : IntOp.cmpi .sle (id k) 49#32 = 1#1 :=
    (StableHlo.Predicate.sle_iff_toNat (by omega) (by decide)).2 (show (id k).toNat ≤ 49 by omega)
  have hmask : (andi (cmpi .sge (fun _ : One.Idx => id k) (broadcastInDim One ![] hb (constantI Scal 32 0#32)))
      (cmpi .sle (fun _ : One.Idx => id k) (constantI One 32 49#32))) = fun _ => 1#1 := by
    funext q
    show IntOp.andi (IntOp.cmpi .sge (id k) 0#32) (IntOp.cmpi .sle (id k) 49#32) = 1#1
    rw [hge, hle]; decide
  rw [hmask]
  -- every step of the fold is `1 ∧ 1`
  have hred : Host.reduce IntOp.andi (fun _ : One.Idx => 1#1) (constantI Scal 1 1#1) hr h0 = fun _ => 1#1 := by
    funext q
    have hf : ∀ l : List (Fin One.numel), l.foldl (fun r _ => IntOp.andi r 1#1) 1#1 = 1#1 := by
      intro l
      induction l with
      | nil => rfl
      | cons _ l ih => exact ih
    exact hf _
  rw [gather_eq_rowAt wf x (id k) hid, hred]
  rfl

/-! ## The kernel's block -/

/-- The pool read through the kernel's source memref — the slice of one block at offset `(w, 0, 0)`, its leading axis
    squeezed away — is block `w` of the pool as the whole memref reads it. -/
theorem read_block {sig : RefSig} {κ : Kind} {sp : Space} {Val : EltTy → Type} (M : Memref sig κ sp Pool .f32) (w : BitVec 32)
    (hw : w.toNat < 50) (off : Fin 3 → ℕ) (ho : off = ![w.toNat, 0, 0])
    (inb : ∀ a, off a + (⟨3, ![1, 10, 4096]⟩ : Shape).size a ≤ Pool.size a) (hs)
    (hq : (⟨3, ![1, 10, 4096]⟩ : Shape).Squeezes Out) (f : M.view.ty.Contents Val) :
    ((M.slice (Rect.unit (s := Pool) off (⟨3, ![1, 10, 4096]⟩ : Shape).size inb) hs).squeeze Out hq).view.read Val f
      = rowAt w (M.view.read Val f) := by
  subst ho
  funext j
  have h1 : ((M.slice (Rect.unit (s := Pool) ![w.toNat, 0, 0] (⟨3, ![1, 10, 4096]⟩ : Shape).size inb) hs).squeeze Out hq).view.read Val f j
      = M.view.read Val f ((Rect.unit (s := Pool) ![w.toNat, 0, 0] (⟨3, ![1, 10, 4096]⟩ : Shape).size inb).emb
          (Shape.reshapeEquiv hq.numel_eq j)) := rfl
  rw [h1]
  have h2 : Shape.reshapeEquiv hq.numel_eq j = ix3 (n0 := 1) (n1 := 10) (n2 := 4096) ⟨0, Nat.one_pos⟩ (j 0) (j 1) := by
    conv_lhs => rw [← ix2_eta j]
    exact ValueIdx.reshapeEquiv_ix2_1ab hq.numel_eq (j 0) (j 1)
  rw [h2]
  unfold rowAt
  refine congrArg (M.view.read Val f) (funext fun a => Fin.ext ?_)
  match a with
  | ⟨0, _⟩ => show w.toNat + 1 * 0 = w.toNat % 50; omega
  | ⟨1, _⟩ => show 0 + 1 * (j 0).val = (j 0).val; omega
  | ⟨2, _⟩ => show 0 + 1 * (j 1).val = (j 1).val; omega

/-- A one-entry vector broadcast from a scalar holds the scalar's entry. -/
theorem bcast_one {α : Type} (hb : Scal.BroadcastsInDim One ![]) (v : Scal.Idx → α) (k : Scal.Idx) :
    broadcastInDim One ![] hb v = fun _ => v k := by
  funext q
  exact congrArg v (funext fun a => a.elim0)

end Cert.Proof.Row

end
-- ==== Proof.Body.lean ====
/-
  The kernel's body on the sequencer of SparseCore 0. It copies the id, a vector of one word, into the sequencer's scalar
  memory, loads the word, and copies the pool's block at that word into the result, each copy issued and at once waited for
  on a semaphore of its own. `lookup_run` says: from the pool, the vector, the result at anything, the scratch word and the
  two semaphores at zero, the body ends with the pool and the vector as they were, the result at the pool's block `w`, and
  both semaphores at zero — where `w`, the vector's word, is below 50. `body₀` is the same statement in the shape the launch
  theorem asks for, the scratch and the two semaphores taken from all the sequencer owns and put back.

  Stated for KernelIdeal at any interpretation `F` of the float types: nothing here computes with a float.
-/
module

public import proofs.«01_k».proof.Defs
public import proofs.«01_k».proof.Proof.Row
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch theorem's standing facts: the handshake's cells are apart and outlive the calls, and no buffer is shared. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

-- the body's memrefs, as the body table passes them: the pool, the id's vector, the result, the scratch word
local notation "poolW" => (Memref.whole Cert.KernelIdeal.main_arg0_scs : Memref Cert.KernelIdeal.sig Kind.scScalar Space.hbm Cert.KernelIdeal.S50x10x4096 EltTy.f32)
local notation "idW" => (Memref.whole Cert.KernelIdeal.main_v0_scs : Memref Cert.KernelIdeal.sig Kind.scScalar Space.hbm Cert.KernelIdeal.S1 EltTy.i32)
local notation "outW" => (Memref.whole Cert.KernelIdeal.main_v1_scs : Memref Cert.KernelIdeal.sig Kind.scScalar Space.hbm Cert.KernelIdeal.S10x4096 EltTy.f32)
local notation "scrW" => (Memref.whole Cert.KernelIdeal.cc0_scratch0 : Memref Cert.KernelIdeal.sig Kind.scScalar Space.smem Cert.KernelIdeal.S1 EltTy.i32)

/-- The pool, the id, the id as a vector of one entry, and the result, in device `d`'s HBM. -/
abbrev poolLoc (d : Dev nD) : Loc nD τ sig := (SparseCore.T d).loc main_arg0
abbrev idLoc (d : Dev nD) : Loc nD τ sig := (SparseCore.T d).loc main_arg1
abbrev vecLoc (d : Dev nD) : Loc nD τ sig := (SparseCore.T d).loc main_v0
abbrev outLoc (d : Dev nD) : Loc nD τ sig := (SparseCore.T d).loc main_v1
/-- The scratch word in the scalar memory of SparseCore `c`'s sequencer. -/
abbrev scrLoc (d : Dev nD) (c : Fin τ.nSC) : Loc nD τ sig := (S d c).loc cc0_scratch0

variable [FloatOps F]

section Body

variable (d : Dev nD)

/-- The kernel's grid coordinate on SparseCore `c`. -/
def coordsS (c : Fin (grid0.bound 0)) : grid0.Coords := fun | 0 => c | ⟨_ + 1, h⟩ => absurd h (Nat.not_lt.2 (Nat.le_add_left _ _))

/-- SparseCore 0's sequencer thread. -/
abbrev S0 (h : 0 < grid0.bound 0) : Thread nD τ := S d ((⟨0, h⟩ : Fin (grid0.bound 0)).castLE hcore0)

/-! ## The sequencer's own cells and buffers, opened -/

omit [FloatOps F] in
/-- The first copy's semaphore is the sequencer's own; so is the second's, and it is another. -/
theorem cell0_mem (c : Fin τ.nSC) : ((S d c, SemLoc.dma cc0_scoped0.sem) : GSem nD τ sig) ∈ ownCells (S d c) :=
  mem_ownCells.mpr ⟨rfl, (show ∀ s : DmaSem sig, (SemLoc.dma s : SemLoc sig).isScoped .scScalar = true by decide) _⟩
omit [FloatOps F] in
theorem cell1_mem (c : Fin τ.nSC) :
    ((S d c, SemLoc.dma cc0_scoped1.sem) : GSem nD τ sig) ∈ (ownCells (S d c)).erase (S d c, SemLoc.dma cc0_scoped0.sem) :=
  Finset.mem_erase.mpr ⟨fun h => absurd (congrArg (fun g : GSem nD τ sig => g.2) h)
      (show (SemLoc.dma cc0_scoped1.sem : SemLoc sig) ≠ SemLoc.dma cc0_scoped0.sem by decide),
    mem_ownCells.mpr ⟨rfl, (show ∀ s : DmaSem sig, (SemLoc.dma s : SemLoc sig).isScoped .scScalar = true by decide) _⟩⟩

omit [FloatOps F] in
/-- The sequencer's own cells at zero: the two the body uses, and the rest. -/
theorem ownSems0_S (c : Fin τ.nSC) :
    (ownSems0 (S d c) : sProp 𝕄)
      = iprop(semVal (S d c, SemLoc.dma cc0_scoped0.sem) 0 ∗ semVal (S d c, SemLoc.dma cc0_scoped1.sem) 0
          ∗ bigSep (((ownCells (S d c)).erase (S d c, SemLoc.dma cc0_scoped0.sem)).erase (S d c, SemLoc.dma cc0_scoped1.sem)) fun g => semVal g 0) := by
  unfold SparseCore.Cfg.ownSems0
  rw [SparseCore.bigSep_erase' (cell0_mem d c), SparseCore.bigSep_erase' (cell1_mem d c)]

omit [FloatOps F] in
/-- The sequencer's own buffers: the scratch word, at some contents, and the rest. -/
theorem ownBufs_S (c : Fin τ.nSC) :
    (ownBufs (S d c) : sProp 𝕄)
      = iprop((∃ f, scrLoc d c ↦{fullShare} f)
          ∗ bigSep ((ownRefs (τ := τ) (.scScalar c)).erase ((Proc.scScalar c).devRef cc0_scratch0)) fun b => iprop(∃ f, ((d, b) : Loc nD τ sig) ↦{fullShare} f)) := by
  unfold SparseCore.Cfg.ownBufs
  exact SparseCore.bigSep_erase' ((mem_ownRefs (p := Proc.scScalar c) (b := (Proc.scScalar c).devRef cc0_scratch0)).mpr rfl)

omit [FloatOps F] in
/-- The arrays as the sequencer's memrefs address them are the TensorCore's arrays. -/
theorem pts_pool (c : Fin τ.nSC) (f : Buf (Elt F) (poolLoc d)) :
    ((poolW).view.loc (S d c) ↦{fullShare} f : sProp 𝕄) = poolLoc d ↦{fullShare} f := by
  simp only [Memref.view_whole, View.set_whole]
omit [FloatOps F] in
theorem pts_vec (c : Fin τ.nSC) (f : Buf (Elt F) (vecLoc d)) :
    ((idW).view.loc (S d c) ↦{fullShare} f : sProp 𝕄) = vecLoc d ↦{fullShare} f := by
  simp only [Memref.view_whole, View.set_whole]
omit [FloatOps F] in
theorem pts_out (c : Fin τ.nSC) (f : Buf (Elt F) (outLoc d)) :
    ((outW).view.loc (S d c) ↦{fullShare} f : sProp 𝕄) = outLoc d ↦{fullShare} f := by
  simp only [Memref.view_whole, View.set_whole]
omit [FloatOps F] in
theorem pts_scr (c : Fin τ.nSC) (f : Buf (Elt F) (scrLoc d c)) :
    ((scrW).view.loc (S d c) ↦{fullShare} f : sProp 𝕄) = scrLoc d c ↦{fullShare} f := by
  simp only [Memref.view_whole, View.set_whole]

/-! ## The body -/

/-- A word below 50 passes the printed bound test: its block lies in the pool. -/
theorem chk_of_lt (w : BitVec 32) (hw : w.toNat < 50) : k0_chk1 w := by
  intro a
  match a with
  | ⟨0, _⟩ => show w.toNat + 1 ≤ 50; omega
  | ⟨1, _⟩ => show 0 + 10 ≤ 10; omega
  | ⟨2, _⟩ => show 0 + 4096 ≤ 4096; omega

/-- The body's run: the id's vector holding the word `w` below 50, it ends with the result at the pool's block `w`, the pool,
    the vector and the two semaphores as they were. -/
theorem lookup_run (h : 0 < grid0.bound 0) (O : CellTallies nD τ sig (HIx 1)) (W : Waits sig (HIx 1)) (w : BitVec 32) (hw : w.toNat < 50)
    (fp : Buf (Elt F) (poolLoc d)) (fo : Buf (Elt F) (outLoc d)) (fs : Buf (Elt F) (scrLoc d ((⟨0, h⟩ : Fin (grid0.bound 0)).castLE hcore0))) :
    (iprop(Transfers.MayWaits (S0 d h) (none : HIx 1) O
        ∗ ((poolW).view.loc (S0 d h) ↦{fullShare} fp)
        ∗ ((idW).view.loc (S0 d h) ↦{fullShare} (fun _ => w : IVec S1 32))
        ∗ ((outW).view.loc (S0 d h) ↦{fullShare} fo)
        ∗ ((scrW).view.loc (S0 d h) ↦{fullShare} fs)
        ∗ semVal (S0 d h, SemLoc.dma cc0_scoped0.sem) 0 ∗ semVal (S0 d h, SemLoc.dma cc0_scoped1.sem) 0
        ∗ owes (S0 d h) O W) : sProp 𝕄)
      ⊢ wp Idealize.ShloMosaic.frame (wpE (defs₀ (F := F)) 𝒱₀ (S0 d h) none) Set.univ
          (cc0__pool_lookup (coordsS ⟨0, h⟩) poolW (Memref.isWhole_whole _) idW (Memref.isWhole_whole _) outW (Memref.isWhole_whole _)
            scrW (Memref.isWhole_whole _) cc0_scoped0 cc0_scoped1)
          fun _ => iprop(((poolW).view.loc (S0 d h) ↦{fullShare} fp)
            ∗ ((idW).view.loc (S0 d h) ↦{fullShare} (fun _ => w : IVec S1 32))
            ∗ ((outW).view.loc (S0 d h) ↦{fullShare} (Row.rowAt w fp : FVec F S10x4096 .f32))
            ∗ (∃ f, (scrW).view.loc (S0 d h) ↦{fullShare} f)
            ∗ semVal (S0 d h, SemLoc.dma cc0_scoped0.sem) 0 ∗ semVal (S0 d h, SemLoc.dma cc0_scoped1.sem) 0
            ∗ ∃ W', owes (S0 d h) O W') := by
  iintro ⟨#Hmw, Hp, Hv, Ho, Hs, Hc0, Hc1, HO⟩
  sl_unfold [cc0__pool_lookup]
  sl_exec (disch := exact chk_of_lt _ hw)
  -- the result is written over whole by the block the second copy read, at the loaded word, which is `w`
  have hout : View.write (Elt F) (outW).view fo (lookup_run.sl.dma1 d h w hw fp fs) Finset.univ = (Row.rowAt w fp : FVec F S10x4096 .f32) :=
    (View.write_whole_univ _ _ _).trans (Row.read_block poolW w hw _ rfl _ _ _ fp)
  sl_step
  isplitl [Hp]; · iexact Hp
  isplitl [Hv]; · iexact Hv
  isplitl [Ho]; · irw [← hout]; iexact Ho
  isplitl [Hs]; · iexists _; iexact Hs
  isplitl [Hc0]; · iexact Hc0
  isplitl [Hc1]; · iexact Hc1
  iexists _; iexact HO

/-- The pool and the id's vector whole, the result whole at `f`: what the call hands the sequencer and takes back. -/
abbrev arrays (fp : Buf (Elt F) (poolLoc d)) (w : BitVec 32) (fo : Buf (Elt F) (outLoc d)) : sProp 𝕄 :=
  iprop((poolLoc d ↦{fullShare} fp) ∗ (vecLoc d ↦{fullShare} (fun _ => w : IVec S1 32)) ∗ outLoc d ↦{fullShare} fo)

/-- `lookup_run` in the launch theorem's shape: the scratch word and the two semaphores are taken from what the sequencer
    owns and put back. (The clause on the recorded waits holds of any wait of a program with one call.) -/
theorem body₀ (hF : (K (F := F)).Facts) (h : 0 < grid0.bound 0) (O : CellTallies nD τ sig (HIx 1)) (W : Waits sig (HIx 1)) (hO : ∀ g, O g none = 0)
    (w : BitVec 32) (hw : w.toNat < 50) (fp : Buf (Elt F) (poolLoc d)) :
    iprop(levAts (K (F := F)).L (K (F := F)).lev ∗ emp ∗ (∃ fo, arrays d fp w fo)
        ∗ scopedBufs (S0 d h) ∗ scopedSems0 (S0 d h) ∗ owes (S0 d h) O W)
      ⊢ wp Idealize.ShloMosaic.frame (wpE (defs₀ (F := F)) 𝒱₀ (S0 d h) none) Set.univ
          (cc0__pool_lookup (coordsS ⟨0, h⟩) poolW (Memref.isWhole_whole _) idW (Memref.isWhole_whole _) outW (Memref.isWhole_whole _)
            scrW (Memref.isWhole_whole _) cc0_scoped0 cc0_scoped1)
          fun _ => iprop(arrays d fp w (Row.rowAt w fp : FVec F S10x4096 .f32) ∗ scopedBufs (S0 d h) ∗ scopedSems0 (S0 d h)
            ∗ ∃ W', ⌜∀ p ∈ W', p ∈ W ∨ p.2 = none ∨ p.2 = some (0 : Fin 1)⌝ ∗ owes (S0 d h) O W') := by
  rw [(K (F := F)).scopedBufs_S hF d _, SparseCore.Cfg.scopedSems0_S (Val := Elt F) d _, ownSems0_S, ownBufs_S]
  iintro ⟨#Hlv, -, ⟨%fo, Hp, Hv, Ho⟩, ⟨⟨⟨%fs, Hs⟩, Hbufs⟩, Htiles⟩, ⟨⟨Hc0, Hc1, Hsems⟩, HtileSems⟩, HO⟩
  ihave Hmw := ((K (F := F)).mayWaits_none (thr := S0 d h) hO) $$ Hlv
  ihave Hp' := (Entails.of_eq (pts_pool (F := F) d _ _).symm) $$ Hp
  ihave Hv' := (Entails.of_eq (pts_vec (F := F) d _ _).symm) $$ Hv
  ihave Ho' := (Entails.of_eq (pts_out (F := F) d _ _).symm) $$ Ho
  ihave Hs' := (Entails.of_eq (pts_scr (F := F) d _ _).symm) $$ Hs
  iapply (wp_wand_r Idealize.ShloMosaic.frame (wpE (defs₀ (F := F)) 𝒱₀ (S0 d h) none) Set.univ)
  isplitl [Hp' Hv' Ho' Hs' Hc0 Hc1 HO]
  · iapply (lookup_run d h O W w hw fp _ _)
    isplitr; · iexact Hmw
    isplitl [Hp']; · iexact Hp'
    isplitl [Hv']; · iexact Hv'
    isplitl [Ho']; · iexact Ho'
    isplitl [Hs']; · iexact Hs'
    isplitl [Hc0]; · iexact Hc0
    isplitl [Hc1]; · iexact Hc1
    iexact HO
  iintro %_ ⟨Hp, Hv, Ho, ⟨%fs', Hs⟩, Hc0, Hc1, %W', HO⟩
  isplitl [Hp Hv Ho]
  · isplitl [Hp]; · iapply (Entails.of_eq (pts_pool (F := F) d _ _)); iexact Hp
    isplitl [Hv]; · iapply (Entails.of_eq (pts_vec (F := F) d _ _)); iexact Hv
    iapply (Entails.of_eq (pts_out (F := F) d _ _)); iexact Ho
  isplitl [Hs Hbufs Htiles]
  · isplitl [Hs Hbufs]
    · isplitl [Hs]; · iexists _; iapply (Entails.of_eq (pts_scr (F := F) d _ _)); iexact Hs
      iexact Hbufs
    iexact Htiles
  isplitl [Hc0 Hc1 Hsems HtileSems]
  · isplitl [Hc0 Hc1 Hsems]
    · isplitl [Hc0]; · iexact Hc0
      isplitl [Hc1]; · iexact Hc1
      iexact Hsems
    iexact HtileSems
  iexists W'; isplitr
  · ipureintro; intro p _
    rcases p.2 with _ | q
    · exact .inr (.inl rfl)
    · exact .inr (.inr (congrArg some (Subsingleton.elim q 0)))
  · iexact HO

end Body

end Cert.Proof.Lookup

end
-- ==== Proof.Launch.lean ====
/-
  The program's run, from the launch to the end. @main first makes the id a vector of one entry, then calls the kernel,
  which runs on SparseCore 0's sequencer (`Body.lean`). `run_main` says: if every device's id is below 50, the program ends,
  nothing faulting, with the result at the pool's block `id`, the pool and the id as they were, and every semaphore at zero.
  Proved once, for KernelIdeal at any interpretation `F` of the float types; the same run serves the program as printed.
-/
module

public import proofs.«01_k».proof.Proof.Body

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

local notation "𝕄" => MT nD τ sig (HIx 1) (Elt F) ℕ UU ℕ
local notation "poolW" => (Memref.whole Cert.KernelIdeal.main_arg0_scs : Memref Cert.KernelIdeal.sig Kind.scScalar Space.hbm Cert.KernelIdeal.S50x10x4096 EltTy.f32)
local notation "idW" => (Memref.whole Cert.KernelIdeal.main_v0_scs : Memref Cert.KernelIdeal.sig Kind.scScalar Space.hbm Cert.KernelIdeal.S1 EltTy.i32)
local notation "outW" => (Memref.whole Cert.KernelIdeal.main_v1_scs : Memref Cert.KernelIdeal.sig Kind.scScalar Space.hbm Cert.KernelIdeal.S10x4096 EltTy.f32)
local notation "scrW" => (Memref.whole Cert.KernelIdeal.cc0_scratch0 : Memref Cert.KernelIdeal.sig Kind.scScalar Space.smem Cert.KernelIdeal.S1 EltTy.i32)

variable (m : (ℓ : Loc nD τ sig) → Buf (Elt F) ℓ) (ρ : Dev nD → PrngReg)

/-- Device `d`'s id, as a word, and what the kernel leaves in the result: the pool's block at that word. -/
def idWord (d : Dev nD) : BitVec 32 := (m (idLoc d) : IVec S_ 32) (fun a => a.elim0)
def looked (d : Dev nD) : Buf (Elt F) (outLoc d) := (Row.rowAt (idWord m d) (m (poolLoc d)) : Row.Out.Idx → Elt F .f32)

variable [FloatOps F]

/-! ## What the call hands over -/

/-- The one call's payloads: the pool, the id's vector and the result go to the sequencer and come back, the result at the block
    looked up. -/
def P : (K (F := F)).Pay (nD := nD) (Val := Elt F) (Name := ℕ) (U := UU) where
  st := fun _ d _ => iprop(∃ fo, arrays d (m (poolLoc d)) (idWord m d) fo)
  dn := fun _ d _ => arrays d (m (poolLoc d)) (idWord m d) (looked m d)
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The launch theorem's obligation for the call -/

theorem defs₀_scalar (c : Fin τ.nSC) :
    defs₀ (F := F) (.scScalar c) 0 ()
      = SparseCore.onCore hcore0 (fun c => cc0__pool_lookup (coordsS c) poolW (Memref.isWhole_whole _) idW (Memref.isWhole_whole _)
          outW (Memref.isWhole_whole _) scrW (Memref.isWhole_whole _) cc0_scoped0 cc0_scoped1) ⟨⟩ c := rfl

/-- The call's obligation: SparseCore 0's sequencer runs `body₀`. -/
theorem scalarObl (hid : ∀ d, (idWord m d).toNat < 50) : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  match c with
  | ⟨0, h⟩ => exact body₀ d facts h O W hO (idWord m d) (hid d) (m (poolLoc d))

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev pool' : DevRef τ sig := Proc.devRef .tc (main_arg0 : Ref sig .tc)
abbrev id' : DevRef τ sig := Proc.devRef .tc (main_arg1 : Ref sig .tc)
abbrev vec' : DevRef τ sig := Proc.devRef .tc (main_v0 : Ref sig .tc)
abbrev out' : DevRef τ sig := Proc.devRef .tc (main_v1 : Ref sig .tc)
/-- @main's one operation before the call: the id as a vector of one entry. -/
abbrev opVec : HloOp τ sig (Elt F) := StableHlo.unary main_arg1 main_v0 (broadcastInDim S1 ![] bcast_S_S1)

/-- The TensorCore's arrays: the pool, the id, its vector, the result. -/
abbrev S4 : Finset (DevRef τ sig) := {pool', id', vec', out'}

omit [FloatOps F] in
theorem held_S4 (d : Dev nD) (W : Valuation τ sig (Elt F)) :
    (held (T d) S4 W : sProp 𝕄)
      = iprop((poolLoc d ↦{fullShare} W pool') ∗ (idLoc d ↦{fullShare} W id') ∗ (vecLoc d ↦{fullShare} W vec') ∗ outLoc d ↦{fullShare} W out') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((poolLoc d ↦{fullShare} W main_arg0) ∗ (idLoc d ↦{fullShare} W main_arg1) ∗ (vecLoc d ↦{fullShare} W main_v0)
          ∗ outLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The arrays at the launch, and after the vector is made. -/
def V0 (d : Dev nD) : Valuation τ sig (Elt F) := fun b => m (d, b)
def V1 (d : Dev nD) : Valuation τ sig (Elt F) := (opVec (F := F)).result (V0 m d)

theorem unscoped_held (d : Dev nD) : (unscopedBufs d (fun b => m ((SparseCore.T d).loc b)) : sProp 𝕄) = held (T d) S4 (V0 m d) := by
  rw [unscopedBufs_eq, held_S4]; rfl

/-- The vector's one entry is the id. -/
theorem V1_vec (d : Dev nD) : V1 m d vec' = (fun _ => idWord m d : IVec S1 32) :=
  (StableHlo.unary_result _ _ _ _ _ _).trans (Row.bcast_one _ _ _)

/-- The four arrays before the call: the vector at the id, the rest as at the launch. -/
theorem held_V1 (d : Dev nD) :
    (held (T d) S4 ((opVec (F := F)).result (V0 m d)) : sProp 𝕄)
      = iprop((poolLoc d ↦{fullShare} m (poolLoc d)) ∗ (idLoc d ↦{fullShare} m (idLoc d))
          ∗ (vecLoc d ↦{fullShare} (fun _ => idWord m d : IVec S1 32)) ∗ outLoc d ↦{fullShare} m (outLoc d)) := by
  rw [held_S4, (opVec (F := F)).result_of_not_mem _ (b := pool') (show pool' ∉ ({vec'} : Finset (DevRef τ sig)) by decide),
    (opVec (F := F)).result_of_not_mem _ (b := id') (show id' ∉ ({vec'} : Finset (DevRef τ sig)) by decide),
    (opVec (F := F)).result_of_not_mem _ (b := out') (show out' ∉ ({vec'} : Finset (DevRef τ sig)) by decide),
    show (opVec (F := F)).result (V0 m d) vec' = _ from V1_vec m d]
  rfl

/-- What the call takes for its one SparseCore, and what it hands back. -/
theorem st0_eq (d : Dev nD) :
    (bigSep Finset.univ fun c : Fin ((K (F := F)).nCore 0) => (P m).st 0 d c) = iprop(∃ fo, arrays d (m (poolLoc d)) (idWord m d) fo) :=
  bigSep_univ_of_subsingleton (0 : Fin 1)
theorem dn0_eq (d : Dev nD) :
    (bigSep Finset.univ fun c : Fin ((K (F := F)).nCore 0) => (P m).dn 0 d c) = arrays d (m (poolLoc d)) (idWord m d) (looked m d) :=
  bigSep_univ_of_subsingleton (0 : Fin 1)

theorem hVec : (opVec (F := F)).bufs ⊆ S4 := show ({id', vec'} : Finset (DevRef τ sig)) ⊆ S4 by decide

/-- What @main leaves: the pool and the id as at the launch, the result at the block looked up. -/
abbrev FIN (d : Dev nD) : sProp 𝕄 :=
  iprop((poolLoc d ↦{fullShare} m (poolLoc d)) ∗ (idLoc d ↦{fullShare} m (idLoc d)) ∗ outLoc d ↦{fullShare} looked m d)

/-- @main on device `d`'s TensorCore: the id made a vector, then the call. -/
theorem hmain (κ : GSem nD τ sig → ℕ) (d : Dev nD) :
    iprop((K (F := F)).ctx EH (P m) κ ∗ (K (F := F)).tcSt EH d 0 ∗ (K (F := F)).tcRes m ρ d ∗ emp)
      ⊢ wp Idealize.ShloMosaic.frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opVec) (S := S4) hVec (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Hp, Hi, Hv, Ho⟩
  iapply ((K (F := F)).wp_run (D (F := F)) 𝒱 (EH := EH) (P := P m) κ d 0) $$ [Hst Hp Hv Ho Hb Hi Hts]
  isplitr; · iexact Hctx
  isplitl [Hst]; · iexact Hst
  isplitl [Hp Hv Ho]
  · rw [st0_eq]
    iexists _
    isplitl [Hp]; · iexact Hp
    isplitl [Hv]; · iexact Hv
    iexact Ho
  iintro ⟨Hst, Hdn⟩
  ihave Hdn' := (Entails.of_eq (dn0_eq m d)) $$ Hdn
  icases Hdn' with ⟨Hp, -, Ho⟩
  imodintro
  isplitl [Hst]; · iexact Hst
  isplitr [Hb Hts]
  · isplitl [Hp]; · iexact Hp
    isplitl [Hi]; · iexact Hi
    iexact Ho
  isplitl [Hb] <;> iassumption

/-- What the claims read of device `d`'s final memory. -/
def fq (d : Dev nD) (s' : Phys nD τ sig (Elt F)) : Prop :=
  s'.mem.mem (outLoc d) = looked m d ∧ s'.mem.mem (poolLoc d) = m (poolLoc d) ∧ s'.mem.mem (idLoc d) = m (idLoc d)

theorem hfin (d : Dev nD) (s' : Phys nD τ sig (Elt F)) : iprop(FIN m d ∗ SI s') ⊢ (⌜fq m d s'⌝ : sProp 𝕄) := by
  iintro ⟨⟨Hp, Hi, Ho⟩, HSI⟩
  ihave H := (persistent_entails_right (SI_pointsTo_agree (st := s') (ℓ := poolLoc d) (I := Finset.univ) (q := fullShare) (f := m (poolLoc d)))) $$ [HSI Hp]
  · isplitl [HSI] <;> iassumption
  icases H with ⟨%hp, HSI, -⟩
  ihave H := (persistent_entails_right (SI_pointsTo_agree (st := s') (ℓ := idLoc d) (I := Finset.univ) (q := fullShare) (f := m (idLoc d)))) $$ [HSI Hi]
  · isplitl [HSI] <;> iassumption
  icases H with ⟨%hi, HSI, -⟩
  ihave H := (SI_pointsTo_agree (st := s') (ℓ := outLoc d) (I := Finset.univ) (q := fullShare) (f := looked m d)) $$ [HSI Ho]
  · isplitl [HSI] <;> iassumption
  icases H with %ho
  ipureintro
  exact ⟨funext fun i => ho i (Finset.mem_univ i), funext fun i => hp i (Finset.mem_univ i), funext fun i => hi i (Finset.mem_univ i)⟩

/-! ## The run -/

/-- The final state: the result at the block looked up, the arguments unchanged, every semaphore at zero. -/
def QC : PUnit × MemSt nD τ sig (Elt F) → Prop := fun r =>
  (∀ c : Dev nD, r.2.mem (outLoc c) = looked m c ∧ r.2.mem (poolLoc c) = m (poolLoc c) ∧ r.2.mem (idLoc c) = m (idLoc c)) ∧ r.2.sem = fun _ => 0

/-- The program's run: with every id below 50, every execution ends in `QC`. -/
theorem run_main [∀ e, Nonempty (Elt F e)] (hid : ∀ d, (idWord m d).toNat < 50) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m hid)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h hz => ⟨h, hz⟩)

end Cert.Proof.Lookup

end
-- ==== Proof.lean ====
/-
  The certificate's theorem, `Cert.Proof.claim`. Its parts:

  * the frames of the kernel, as printed and idealized: both from the one run of `Proof/Launch.lean`, at the two
    interpretations of the float types;
  * the frames of the reference, from its generated run;
  * `preserves`: no operation was rewritten, so there is nothing to show;
  * the two value claims, over the extended reals and bit for bit: the kernel's run leaves the pool's block `id`
    (`Row.rowAt`), and the reference's expression is that block when the id is below 50 (`Row.take_eq_rowAt`).

  The precondition says just that: the id is below 50 (`Row.pre_lt`).
-/
module

public import proofs.«01_k».proof.Defs
public import proofs.«01_k».proof.Proof.Row
public import proofs.«01_k».proof.Proof.Launch
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Gen.Pre_id_in_range
public import proofs.«01_k».proof.Proof.Gen.ReferenceIdeal.Run
public import proofs.«01_k».proof.Proof.Gen.Reference.Run
public import Idealize.ShloMosaic.Adequacy
public import Idealize.ShloMosaic.Init

@[expose] public section

noncomputable section

namespace Cert.Proof

open Idealize.ShloMosaic Idealize.SL.Sem

/-! ## The precondition, on each device -/

theorem id_lt_kernel (m : (ℓ : Loc Cert.Kernel.nD Cert.Kernel.τ Cert.Kernel.sig) → Buf (Elt Bits) ℓ) (h : Cert.Pre_Kernel m)
    (d : Dev Cert.KernelIdeal.nD) : (Lookup.idWord (F := Bits) m d).toNat < 50 :=
  Row.pre_lt (F := Bits) _ _ (h d) _

theorem id_lt_ideal (m : (ℓ : Loc Cert.KernelIdeal.nD Cert.KernelIdeal.τ Cert.KernelIdeal.sig) → Buf (Elt Ideal) ℓ) (h : Cert.Pre_KernelIdeal m)
    (d : Dev Cert.KernelIdeal.nD) : (Lookup.idWord (F := Ideal) m d).toNat < 50 :=
  Row.pre_lt (F := Ideal) _ _ (h d) _

/-! ## The frames -/

/-- The kernel as printed: the idealized kernel's run, read at the bits. -/
theorem frame_kernel : Cert.quiescent_Kernel := fun m ρ hp =>
  (θ_run Cert.KernelIdeal.defs _ _).mono (fun _ h => ⟨fun c => (h.1 c).2, h.2⟩) (Lookup.run_main (F := Bits) m ρ (id_lt_kernel m hp))

theorem frame_ideal : Cert.quiescent_KernelIdeal := fun m ρ hp =>
  (θ_run Cert.KernelIdeal.defs _ _).mono (fun _ h => ⟨fun c => (h.1 c).2, h.2⟩) (Lookup.run_main (F := Ideal) m ρ (id_lt_ideal m hp))

/-- The reference has no semaphores, so every counter is zero. -/
theorem frame_reference_ideal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

theorem frame_reference : Cert.quiescent_Reference := fun m ρ _ =>
  (θ_run Cert.Reference.defs _ _).mono (fun r h => ⟨fun c => (h c).2, sem_eq_zero_of_no_sems (by decide) r.2⟩)
    (Cert.Reference.Value.run m ρ)

/-! ## The values -/

/-- Over the extended reals, kernel and reference both end with the pool's block `id`. -/
theorem algebraic : Cert.algebraic_KernelIdeal_ReferenceIdeal := fun m ρ m' ρ' hp hm =>
  ⟨fun c => Lookup.looked (F := Ideal) m c,
    (θ_run Cert.KernelIdeal.defs _ _).mono (fun _ h => h.1) (Lookup.run_main (F := Ideal) m ρ (id_lt_ideal m hp)),
    (θ_run Cert.ReferenceIdeal.defs _ _).mono
      (fun _ h c => ⟨(h c).1.trans (by
        rw [(hm c).1, (hm c).2]
        exact Row.take_eq_rowAt _ _ _ _ _ _ _ _ _ (id_lt_ideal m hp c)), (h c).2⟩)
      (Cert.ReferenceIdeal.Value.run m' ρ')⟩

/-- And bit for bit. -/
theorem bitexact : Cert.bitexact_Kernel_Reference := fun m ρ m' ρ' hp hm =>
  ⟨fun c => Lookup.looked (F := Bits) m c,
    (θ_run Cert.KernelIdeal.defs _ _).mono (fun _ h => h.1) (Lookup.run_main (F := Bits) m ρ (id_lt_kernel m hp)),
    (θ_run Cert.Reference.defs _ _).mono
      (fun _ h c => ⟨(h c).1.trans (by
        rw [(hm c).1, (hm c).2]
        exact Row.take_eq_rowAt _ _ _ _ _ _ _ _ _ (id_lt_kernel m hp c)), (h c).2⟩)
      (Cert.Reference.Value.run m' ρ')⟩

theorem claim : Cert.Claim :=
  ⟨Cert.Kernel.Gen.facts, Cert.KernelIdeal.Gen.facts, Cert.ReferenceIdeal.Gen.facts, Cert.Reference.Gen.facts, Cert.Pre_id_in_range.Gen.facts,
    frame_kernel, frame_ideal, frame_reference_ideal, frame_reference, trivial, algebraic, bitexact⟩

end Cert.Proof

end
